-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x96x224x224 : Shape := ⟨5, ![1, 8, 96, 224, 224]⟩
abbrev S1x8x512x2 : Shape := ⟨4, ![1, 8, 512, 2]⟩
abbrev S1x8x512 : Shape := ⟨3, ![1, 8, 512]⟩
abbrev S_ : Shape := ⟨0, ![]⟩
abbrev S8x96x224x224 : Shape := ⟨4, ![8, 96, 224, 224]⟩
abbrev S4096x2 : Shape := ⟨2, ![4096, 2]⟩
abbrev S4096 : Shape := ⟨1, ![4096]⟩
abbrev S4096x1 : Shape := ⟨2, ![4096, 1]⟩
abbrev S7 : Shape := ⟨1, ![7]⟩
abbrev S1 : Shape := ⟨1, ![1]⟩
abbrev S8 : Shape := ⟨1, ![8]⟩
abbrev S1x8 : Shape := ⟨2, ![1, 8]⟩
abbrev S4096x8 : Shape := ⟨2, ![4096, 8]⟩
abbrev S4096x1x8x1 : Shape := ⟨4, ![4096, 1, 8, 1]⟩
abbrev S4096x8x1x1 : Shape := ⟨4, ![4096, 8, 1, 1]⟩
abbrev S4096x1x1 : Shape := ⟨3, ![4096, 1, 1]⟩
abbrev S4096x8x1 : Shape := ⟨3, ![4096, 8, 1]⟩
abbrev S4096x1x8 : Shape := ⟨3, ![4096, 1, 8]⟩
abbrev S4096x8x8 : Shape := ⟨3, ![4096, 8, 8]⟩
abbrev S4096x8x8x1 : Shape := ⟨4, ![4096, 8, 8, 1]⟩
abbrev S4096x8x8x3 : Shape := ⟨4, ![4096, 8, 8, 3]⟩
abbrev S4096x8x8x96 : Shape := ⟨4, ![4096, 8, 8, 96]⟩
abbrev S4096x64x96 : Shape := ⟨3, ![4096, 64, 96]⟩
abbrev S256x64x96 : Shape := ⟨3, ![256, 64, 96]⟩
abbrev S1x8x512x64x96 : Shape := ⟨5, ![1, 8, 512, 64, 96]⟩

abbrev nBuf : Space → Nat
  | .hbm => 261
  | .vmem => 4
  | .smem => 0
  | _ => 0

abbrev hbmTy0_0 (i : Nat) : BufTy := match i % 128 with
  | 0 => ⟨S1x8x96x224x224, .f32⟩
  | 1 => ⟨S1x8x512x2, .f32⟩
  | 2 => ⟨S1x8x512, .i32⟩
  | 3 => ⟨S_, .i32⟩
  | 4 => ⟨S8x96x224x224, .f32⟩
  | 5 => ⟨S4096x2, .f32⟩
  | 6 => ⟨S4096, .i32⟩
  | 7 => ⟨S4096x1, .f32⟩
  | 8 => ⟨S4096, .f32⟩
  | 9 => ⟨S_, .f32⟩
  | 10 => ⟨S4096, .f32⟩
  | 11 => ⟨S4096, .f32⟩
  | 12 => ⟨S4096x1, .f32⟩
  | 13 => ⟨S4096, .f32⟩
  | 14 => ⟨S_, .f32⟩
  | 15 => ⟨S4096, .f32⟩
  | 16 => ⟨S4096, .f32⟩
  | 17 => ⟨S4096x1, .f32⟩
  | 18 => ⟨S4096, .f32⟩
  | 19 => ⟨S_, .f32⟩
  | 20 => ⟨S4096, .f32⟩
  | 21 => ⟨S4096, .f32⟩
  | 22 => ⟨S4096x1, .f32⟩
  | 23 => ⟨S4096, .f32⟩
  | 24 => ⟨S_, .f32⟩
  | 25 => ⟨S4096, .f32⟩
  | 26 => ⟨S4096, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S7, .f32⟩
  | 35 => ⟨S_, .f32⟩
  | 36 => ⟨S7, .f32⟩
  | 37 => ⟨S7, .f32⟩
  | 38 => ⟨S1, .f32⟩
  | 39 => ⟨S_, .f32⟩
  | 40 => ⟨S7, .f32⟩
  | 41 => ⟨S7, .f32⟩
  | 42 => ⟨S7, .f32⟩
  | 43 => ⟨S7, .f32⟩
  | 44 => ⟨S1, .f32⟩
  | 45 => ⟨S7, .f32⟩
  | 46 => ⟨S7, .f32⟩
  | 47 => ⟨S7, .f32⟩
  | 48 => ⟨S1, .f32⟩
  | 49 => ⟨S8, .f32⟩
  | 50 => ⟨S4096x1, .f32⟩
  | 51 => ⟨S4096, .f32⟩
  | 52 => ⟨S4096x1, .f32⟩
  | 53 => ⟨S1x8, .f32⟩
  | 54 => ⟨S4096x8, .f32⟩
  | 55 => ⟨S4096x8, .f32⟩
  | 56 => ⟨S4096x8, .f32⟩
  | 57 => ⟨S4096x8, .f32⟩
  | 58 => ⟨S4096x8, .f32⟩
  | 59 => ⟨S_, .f32⟩
  | 60 => ⟨S_, .f32⟩
  | 61 => ⟨S_, .f32⟩
  | 62 => ⟨S4096x8, .f32⟩
  | 63 => ⟨S4096x8, .f32⟩
  | 64 => ⟨S_, .f32⟩
  | 65 => ⟨S4096x8, .f32⟩
  | 66 => ⟨S4096x8, .f32⟩
  | 67 => ⟨S4096x1, .f32⟩
  | 68 => ⟨S4096, .f32⟩
  | 69 => ⟨S4096x1, .f32⟩
  | 70 => ⟨S1x8, .f32⟩
  | 71 => ⟨S4096x8, .f32⟩
  | 72 => ⟨S4096x8, .f32⟩
  | 73 => ⟨S4096x8, .f32⟩
  | 74 => ⟨S4096x8, .f32⟩
  | 75 => ⟨S4096x8, .f32⟩
  | 76 => ⟨S_, .f32⟩
  | 77 => ⟨S_, .f32⟩
  | 78 => ⟨S_, .f32⟩
  | 79 => ⟨S4096x8, .f32⟩
  | 80 => ⟨S4096x8, .f32⟩
  | 81 => ⟨S_, .f32⟩
  | 82 => ⟨S4096x8, .f32⟩
  | 83 => ⟨S4096x8, .f32⟩
  | 84 => ⟨S4096x8, .f32⟩
  | 85 => ⟨S4096x8, .i32⟩
  | 86 => ⟨S4096x8, .f32⟩
  | 87 => ⟨S4096x8, .i32⟩
  | 88 => ⟨S_, .i32⟩
  | 89 => ⟨S4096x8, .i32⟩
  | 90 => ⟨S4096x8, .i32⟩
  | 91 => ⟨S_, .i32⟩
  | 92 => ⟨S4096x8, .i32⟩
  | 93 => ⟨S4096x8, .i32⟩
  | 94 => ⟨S_, .i32⟩
  | 95 => ⟨S4096x8, .i32⟩
  | 96 => ⟨S4096x8, .i32⟩
  | 97 => ⟨S_, .i32⟩
  | 98 => ⟨S4096x8, .i32⟩
  | 99 => ⟨S4096x8, .i32⟩
  | 100 => ⟨S4096x8, .f32⟩
  | 101 => ⟨S4096x8, .f32⟩
  | 102 => ⟨S4096x1x8x1, .f32⟩
  | 103 => ⟨S4096x8, .f32⟩
  | 104 => ⟨S4096x8, .f32⟩
  | 105 => ⟨S4096x8x1x1, .f32⟩
  | 106 => ⟨S4096x1x1, .i32⟩
  | 107 => ⟨S4096x8x1, .i32⟩
  | 108 => ⟨S4096x8x1, .i32⟩
  | 109 => ⟨S4096x1x8, .i32⟩
  | 110 => ⟨S4096x1x8, .i32⟩
  | 111 => ⟨S_, .i32⟩
  | 112 => ⟨S4096x1x1, .i32⟩
  | 113 => ⟨S4096x1x1, .i1⟩
  | 114 => ⟨S_, .i32⟩
  | 115 => ⟨S4096x1x1, .i32⟩
  | 116 => ⟨S4096x1x1, .i32⟩
  | 117 => ⟨S4096x1x1, .i32⟩
  | 118 => ⟨S_, .i32⟩
  | 119 => ⟨S4096x8x1, .i32⟩
  | 120 => ⟨S4096x8x1, .i1⟩
  | 121 => ⟨S_, .i32⟩
  | 122 => ⟨S4096x8x1, .i32⟩
  | 123 => ⟨S4096x8x1, .i32⟩
  | 124 => ⟨S4096x8x1, .i32⟩
  | 125 => ⟨S_, .i32⟩
  | 126 => ⟨S4096x1x8, .i32⟩
  | 127 => ⟨S4096x1x8, .i1⟩
  | _ => ⟨S1x8x96x224x224, .f32⟩

abbrev hbmTy0_1 (i : Nat) : BufTy := match i % 128 with
  | 0 => ⟨S_, .i32⟩
  | 1 => ⟨S4096x1x8, .i32⟩
  | 2 => ⟨S4096x1x8, .i32⟩
  | 3 => ⟨S4096x1x8, .i32⟩
  | 4 => ⟨S4096x8x8, .i32⟩
  | 5 => ⟨S4096x8x8, .i32⟩
  | 6 => ⟨S4096x8x8, .i32⟩
  | 7 => ⟨S4096x8x8x1, .i32⟩
  | 8 => ⟨S4096x8x8x1, .i32⟩
  | 9 => ⟨S4096x8x8x1, .i32⟩
  | 10 => ⟨S4096x8x8x3, .i32⟩
  | 11 => ⟨S4096x8x8x96, .f32⟩
  | 12 => ⟨S_, .i32⟩
  | 13 => ⟨S4096x1x1, .i32⟩
  | 14 => ⟨S4096x1x1, .i1⟩
  | 15 => ⟨S_, .i32⟩
  | 16 => ⟨S4096x1x1, .i32⟩
  | 17 => ⟨S4096x1x1, .i32⟩
  | 18 => ⟨S4096x1x1, .i32⟩
  | 19 => ⟨S_, .i32⟩
  | 20 => ⟨S4096x8x1, .i32⟩
  | 21 => ⟨S4096x8x1, .i1⟩
  | 22 => ⟨S_, .i32⟩
  | 23 => ⟨S4096x8x1, .i32⟩
  | 24 => ⟨S4096x8x1, .i32⟩
  | 25 => ⟨S4096x8x1, .i32⟩
  | 26 => ⟨S_, .i32⟩
  | 27 => ⟨S4096x1x8, .i32⟩
  | 28 => ⟨S4096x1x8, .i1⟩
  | 29 => ⟨S_, .i32⟩
  | 30 => ⟨S4096x1x8, .i32⟩
  | 31 => ⟨S4096x1x8, .i32⟩
  | 32 => ⟨S4096x1x8, .i32⟩
  | 33 => ⟨S4096x8x8, .i32⟩
  | 34 => ⟨S4096x8x8, .i32⟩
  | 35 => ⟨S4096x8x8, .i32⟩
  | 36 => ⟨S4096x8x8x1, .i32⟩
  | 37 => ⟨S4096x8x8x1, .i32⟩
  | 38 => ⟨S4096x8x8x1, .i32⟩
  | 39 => ⟨S4096x8x8x3, .i32⟩
  | 40 => ⟨S4096x8x8x96, .f32⟩
  | 41 => ⟨S_, .i32⟩
  | 42 => ⟨S4096x1x1, .i32⟩
  | 43 => ⟨S4096x1x1, .i1⟩
  | 44 => ⟨S_, .i32⟩
  | 45 => ⟨S4096x1x1, .i32⟩
  | 46 => ⟨S4096x1x1, .i32⟩
  | 47 => ⟨S4096x1x1, .i32⟩
  | 48 => ⟨S_, .i32⟩
  | 49 => ⟨S4096x8x1, .i32⟩
  | 50 => ⟨S4096x8x1, .i1⟩
  | 51 => ⟨S_, .i32⟩
  | 52 => ⟨S4096x8x1, .i32⟩
  | 53 => ⟨S4096x8x1, .i32⟩
  | 54 => ⟨S4096x8x1, .i32⟩
  | 55 => ⟨S_, .i32⟩
  | 56 => ⟨S4096x1x8, .i32⟩
  | 57 => ⟨S4096x1x8, .i1⟩
  | 58 => ⟨S_, .i32⟩
  | 59 => ⟨S4096x1x8, .i32⟩
  | 60 => ⟨S4096x1x8, .i32⟩
  | 61 => ⟨S4096x1x8, .i32⟩
  | 62 => ⟨S4096x8x8, .i32⟩
  | 63 => ⟨S4096x8x8, .i32⟩
  | 64 => ⟨S4096x8x8, .i32⟩
  | 65 => ⟨S4096x8x8x1, .i32⟩
  | 66 => ⟨S4096x8x8x1, .i32⟩
  | 67 => ⟨S4096x8x8x1, .i32⟩
  | 68 => ⟨S4096x8x8x3, .i32⟩
  | 69 => ⟨S4096x8x8x96, .f32⟩
  | 70 => ⟨S_, .i32⟩
  | 71 => ⟨S4096x1x1, .i32⟩
  | 72 => ⟨S4096x1x1, .i1⟩
  | 73 => ⟨S_, .i32⟩
  | 74 => ⟨S4096x1x1, .i32⟩
  | 75 => ⟨S4096x1x1, .i32⟩
  | 76 => ⟨S4096x1x1, .i32⟩
  | 77 => ⟨S_, .i32⟩
  | 78 => ⟨S4096x8x1, .i32⟩
  | 79 => ⟨S4096x8x1, .i1⟩
  | 80 => ⟨S_, .i32⟩
  | 81 => ⟨S4096x8x1, .i32⟩
  | 82 => ⟨S4096x8x1, .i32⟩
  | 83 => ⟨S4096x8x1, .i32⟩
  | 84 => ⟨S_, .i32⟩
  | 85 => ⟨S4096x1x8, .i32⟩
  | 86 => ⟨S4096x1x8, .i1⟩
  | 87 => ⟨S_, .i32⟩
  | 88 => ⟨S4096x1x8, .i32⟩
  | 89 => ⟨S4096x1x8, .i32⟩
  | 90 => ⟨S4096x1x8, .i32⟩
  | 91 => ⟨S4096x8x8, .i32⟩
  | 92 => ⟨S4096x8x8, .i32⟩
  | 93 => ⟨S4096x8x8, .i32⟩
  | 94 => ⟨S4096x8x8x1, .i32⟩
  | 95 => ⟨S4096x8x8x1, .i32⟩
  | 96 => ⟨S4096x8x8x1, .i32⟩
  | 97 => ⟨S4096x8x8x3, .i32⟩
  | 98 => ⟨S4096x8x8x96, .f32⟩
  | 99 => ⟨S_, .f32⟩
  | 100 => ⟨S4096x8x1x1, .f32⟩
  | 101 => ⟨S4096x8x1x1, .f32⟩
  | 102 => ⟨S4096x8x8x96, .f32⟩
  | 103 => ⟨S4096x8x8x96, .f32⟩
  | 104 => ⟨S_, .f32⟩
  | 105 => ⟨S4096x1x8x1, .f32⟩
  | 106 => ⟨S4096x1x8x1, .f32⟩
  | 107 => ⟨S4096x8x8x96, .f32⟩
  | 108 => ⟨S4096x8x8x96, .f32⟩
  | 109 => ⟨S_, .f32⟩
  | 110 => ⟨S4096x8x1x1, .f32⟩
  | 111 => ⟨S4096x8x1x1, .f32⟩
  | 112 => ⟨S4096x8x8x96, .f32⟩
  | 113 => ⟨S4096x8x8x96, .f32⟩
  | 114 => ⟨S4096x8x8x96, .f32⟩
  | 115 => ⟨S4096x8x8x96, .f32⟩
  | 116 => ⟨S4096x8x8x96, .f32⟩
  | 117 => ⟨S4096x8x8x96, .f32⟩
  | 118 => ⟨S4096x8x8x96, .f32⟩
  | 119 => ⟨S_, .f32⟩
  | 120 => ⟨S4096x1x8x1, .f32⟩
  | 121 => ⟨S4096x1x8x1, .f32⟩
  | 122 => ⟨S4096x8x8x96, .f32⟩
  | 123 => ⟨S4096x8x8x96, .f32⟩
  | 124 => ⟨S4096x8x8x96, .f32⟩
  | 125 => ⟨S4096x8x8x96, .f32⟩
  | 126 => ⟨S4096x8x8x96, .f32⟩
  | 127 => ⟨S4096x8x8x96, .f32⟩
  | _ => ⟨S1x8x96x224x224, .f32⟩

abbrev hbmTy0_2 (i : Nat) : BufTy := match i % 128 with
  | 0 => ⟨S4096x8x8x96, .f32⟩
  | 1 => ⟨S4096x8x8x96, .f32⟩
  | 2 => ⟨S4096x64x96, .f32⟩
  | 3 => ⟨S4096x64x96, .f32⟩
  | 4 => ⟨S1x8x512x64x96, .f32⟩
  | _ => ⟨S1x8x96x224x224, .f32⟩

abbrev hbmTy (i : Nat) : BufTy := match i / 128 with
  | 0 => hbmTy0_0 i
  | 1 => hbmTy0_1 i
  | 2 => hbmTy0_2 i
  | _ => ⟨S1x8x96x224x224, .f32⟩

abbrev bufTy : (tb : Table) → Fin (tcTables nBuf tb) → BufTy
  | .hbm, ⟨i, _⟩ => hbmTy i
  | .local _ .vmem, ⟨0, _⟩ => ⟨S256x64x96, .f32⟩
  | .local _ .vmem, ⟨1, _⟩ => ⟨S256x64x96, .f32⟩
  | .local _ .vmem, ⟨2, _⟩ => ⟨S256x64x96, .f32⟩
  | .local _ .vmem, ⟨3, _⟩ => ⟨S256x64x96, .f32⟩
  | _, _ => ⟨S1x8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_cst : Ref sig .tc := ⟨.hbm, 32, rfl⟩
abbrev main_call0_v3 : Ref sig .tc := ⟨.hbm, 33, rfl⟩
abbrev main_call0_v4 : Ref sig .tc := ⟨.hbm, 34, rfl⟩
abbrev main_call0_cst_0 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_7 : Ref sig .tc := ⟨.hbm, 76, rfl⟩
abbrev main_cst_8 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c : Ref sig .tc := ⟨.hbm, 88, rfl⟩
abbrev main_v44 : Ref sig .tc := ⟨.hbm, 89, rfl⟩
abbrev main_v45 : Ref sig .tc := ⟨.hbm, 90, rfl⟩
abbrev main_c_9 : Ref sig .tc := ⟨.hbm, 91, rfl⟩
abbrev main_v46 : Ref sig .tc := ⟨.hbm, 92, rfl⟩
abbrev main_v47 : Ref sig .tc := ⟨.hbm, 93, rfl⟩
abbrev main_c_10 : Ref sig .tc := ⟨.hbm, 94, rfl⟩
abbrev main_v48 : Ref sig .tc := ⟨.hbm, 95, rfl⟩
abbrev main_v49 : Ref sig .tc := ⟨.hbm, 96, rfl⟩
abbrev main_c_11 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_12 : Ref sig .tc := ⟨.hbm, 111, rfl⟩
abbrev main_v63 : Ref sig .tc := ⟨.hbm, 112, rfl⟩
abbrev main_v64 : Ref sig .tc := ⟨.hbm, 113, rfl⟩
abbrev main_c_13 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_14 : Ref sig .tc := ⟨.hbm, 118, rfl⟩
abbrev main_v68 : Ref sig .tc := ⟨.hbm, 119, rfl⟩
abbrev main_v69 : Ref sig .tc := ⟨.hbm, 120, rfl⟩
abbrev main_c_15 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_16 : Ref sig .tc := ⟨.hbm, 125, rfl⟩
abbrev main_v73 : Ref sig .tc := ⟨.hbm, 126, rfl⟩
abbrev main_v74 : Ref sig .tc := ⟨.hbm, 127, rfl⟩
abbrev main_c_17 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_18 : Ref sig .tc := ⟨.hbm, 140, rfl⟩
abbrev main_v86 : Ref sig .tc := ⟨.hbm, 141, rfl⟩
abbrev main_v87 : Ref sig .tc := ⟨.hbm, 142, rfl⟩
abbrev main_c_19 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_20 : Ref sig .tc := ⟨.hbm, 147, rfl⟩
abbrev main_v91 : Ref sig .tc := ⟨.hbm, 148, rfl⟩
abbrev main_v92 : Ref sig .tc := ⟨.hbm, 149, rfl⟩
abbrev main_c_21 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_22 : Ref sig .tc := ⟨.hbm, 154, rfl⟩
abbrev main_v96 : Ref sig .tc := ⟨.hbm, 155, rfl⟩
abbrev main_v97 : Ref sig .tc := ⟨.hbm, 156, rfl⟩
abbrev main_c_23 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_24 : Ref sig .tc := ⟨.hbm, 169, rfl⟩
abbrev main_v109 : Ref sig .tc := ⟨.hbm, 170, rfl⟩
abbrev main_v110 : Ref sig .tc := ⟨.hbm, 171, rfl⟩
abbrev main_c_25 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_c_26 : Ref sig .tc := ⟨.hbm, 176, rfl⟩
abbrev main_v114 : Ref sig .tc := ⟨.hbm, 177, rfl⟩
abbrev main_v115 : Ref sig .tc := ⟨.hbm, 178, rfl⟩
abbrev main_c_27 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_c_28 : Ref sig .tc := ⟨.hbm, 183, rfl⟩
abbrev main_v119 : Ref sig .tc := ⟨.hbm, 184, rfl⟩
abbrev main_v120 : Ref sig .tc := ⟨.hbm, 185, rfl⟩
abbrev main_c_29 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_c_30 : Ref sig .tc := ⟨.hbm, 198, rfl⟩
abbrev main_v132 : Ref sig .tc := ⟨.hbm, 199, rfl⟩
abbrev main_v133 : Ref sig .tc := ⟨.hbm, 200, rfl⟩
abbrev main_c_31 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_c_32 : Ref sig .tc := ⟨.hbm, 205, rfl⟩
abbrev main_v137 : Ref sig .tc := ⟨.hbm, 206, rfl⟩
abbrev main_v138 : Ref sig .tc := ⟨.hbm, 207, rfl⟩
abbrev main_c_33 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_c_34 : Ref sig .tc := ⟨.hbm, 212, rfl⟩
abbrev main_v142 : Ref sig .tc := ⟨.hbm, 213, rfl⟩
abbrev main_v143 : Ref sig .tc := ⟨.hbm, 214, rfl⟩
abbrev main_c_35 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_36 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_cst_37 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_38 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_cst_39 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x8x96x224x224 : Shape := ⟨5, ![1, 8, 96, 224, 224]⟩
abbrev S1x8x512x2 : Shape := ⟨4, ![1, 8, 512, 2]⟩
abbrev S1x8x512 : Shape := ⟨3, ![1, 8, 512]⟩
abbrev S_ : Shape := ⟨0, ![]⟩
abbrev S8x96x224x224 : Shape := ⟨4, ![8, 96, 224, 224]⟩
abbrev S4096x2 : Shape := ⟨2, ![4096, 2]⟩
abbrev S4096 : Shape := ⟨1, ![4096]⟩
abbrev S4096x4 : Shape := ⟨2, ![4096, 4]⟩
abbrev S4096x1 : Shape := ⟨2, ![4096, 1]⟩
abbrev S7 : Shape := ⟨1, ![7]⟩
abbrev S1 : Shape := ⟨1, ![1]⟩
abbrev S8 : Shape := ⟨1, ![8]⟩
abbrev S1x8 : Shape := ⟨2, ![1, 8]⟩
abbrev S4096x8 : Shape := ⟨2, ![4096, 8]⟩
abbrev S4096x1x8x1 : Shape := ⟨4, ![4096, 1, 8, 1]⟩
abbrev S4096x8x1x1 : Shape := ⟨4, ![4096, 8, 1, 1]⟩
abbrev S4096x1x1 : Shape := ⟨3, ![4096, 1, 1]⟩
abbrev S4096x8x1 : Shape := ⟨3, ![4096, 8, 1]⟩
abbrev S4096x1x8 : Shape := ⟨3, ![4096, 1, 8]⟩
abbrev S4096x8x8 : Shape := ⟨3, ![4096, 8, 8]⟩
abbrev S4096x8x8x1 : Shape := ⟨4, ![4096, 8, 8, 1]⟩
abbrev S4096x8x8x3 : Shape := ⟨4, ![4096, 8, 8, 3]⟩
abbrev S4096x8x8x96 : Shape := ⟨4, ![4096, 8, 8, 96]⟩
abbrev S4096x64x96 : Shape := ⟨3, ![4096, 64, 96]⟩
abbrev S1x8x512x64x96 : Shape := ⟨5, ![1, 8, 512, 64, 96]⟩

abbrev nBuf : Space → Nat
  | .hbm => 255
  | .vmem => 0
  | .smem => 0
  | _ => 0

abbrev hbmTy0_0 (i : Nat) : BufTy := match i % 128 with
  | 0 => ⟨S1x8x96x224x224, .f32⟩
  | 1 => ⟨S1x8x512x2, .f32⟩
  | 2 => ⟨S1x8x512, .i32⟩
  | 3 => ⟨S_, .i32⟩
  | 4 => ⟨S8x96x224x224, .f32⟩
  | 5 => ⟨S4096x2, .f32⟩
  | 6 => ⟨S4096, .i32⟩
  | 7 => ⟨S_, .f32⟩
  | 8 => ⟨S4096x2, .f32⟩
  | 9 => ⟨S4096x2, .f32⟩
  | 10 => ⟨S_, .f32⟩
  | 11 => ⟨S4096x2, .f32⟩
  | 12 => ⟨S4096x2, .f32⟩
  | 13 => ⟨S4096x4, .f32⟩
  | 14 => ⟨S4096x1, .f32⟩
  | 15 => ⟨S4096, .f32⟩
  | 16 => ⟨S4096x1, .f32⟩
  | 17 => ⟨S4096, .f32⟩
  | 18 => ⟨S4096x1, .f32⟩
  | 19 => ⟨S4096, .f32⟩
  | 20 => ⟨S4096x1, .f32⟩
  | 21 => ⟨S4096, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S7, .f32⟩
  | 30 => ⟨S_, .f32⟩
  | 31 => ⟨S7, .f32⟩
  | 32 => ⟨S7, .f32⟩
  | 33 => ⟨S1, .f32⟩
  | 34 => ⟨S_, .f32⟩
  | 35 => ⟨S7, .f32⟩
  | 36 => ⟨S7, .f32⟩
  | 37 => ⟨S7, .f32⟩
  | 38 => ⟨S7, .f32⟩
  | 39 => ⟨S1, .f32⟩
  | 40 => ⟨S7, .f32⟩
  | 41 => ⟨S7, .f32⟩
  | 42 => ⟨S7, .f32⟩
  | 43 => ⟨S1, .f32⟩
  | 44 => ⟨S8, .f32⟩
  | 45 => ⟨S4096x1, .f32⟩
  | 46 => ⟨S4096, .f32⟩
  | 47 => ⟨S4096x1, .f32⟩
  | 48 => ⟨S1x8, .f32⟩
  | 49 => ⟨S4096x8, .f32⟩
  | 50 => ⟨S4096x8, .f32⟩
  | 51 => ⟨S4096x8, .f32⟩
  | 52 => ⟨S4096x8, .f32⟩
  | 53 => ⟨S4096x8, .f32⟩
  | 54 => ⟨S4096x1, .f32⟩
  | 55 => ⟨S4096, .f32⟩
  | 56 => ⟨S4096x1, .f32⟩
  | 57 => ⟨S1x8, .f32⟩
  | 58 => ⟨S4096x8, .f32⟩
  | 59 => ⟨S4096x8, .f32⟩
  | 60 => ⟨S4096x8, .f32⟩
  | 61 => ⟨S4096x8, .f32⟩
  | 62 => ⟨S4096x8, .f32⟩
  | 63 => ⟨S_, .f32⟩
  | 64 => ⟨S_, .f32⟩
  | 65 => ⟨S_, .f32⟩
  | 66 => ⟨S4096x8, .f32⟩
  | 67 => ⟨S4096x8, .f32⟩
  | 68 => ⟨S_, .f32⟩
  | 69 => ⟨S4096x8, .f32⟩
  | 70 => ⟨S4096x8, .f32⟩
  | 71 => ⟨S_, .f32⟩
  | 72 => ⟨S_, .f32⟩
  | 73 => ⟨S_, .f32⟩
  | 74 => ⟨S4096x8, .f32⟩
  | 75 => ⟨S4096x8, .f32⟩
  | 76 => ⟨S_, .f32⟩
  | 77 => ⟨S4096x8, .f32⟩
  | 78 => ⟨S4096x8, .f32⟩
  | 79 => ⟨S4096x8, .f32⟩
  | 80 => ⟨S4096x8, .i32⟩
  | 81 => ⟨S4096x8, .f32⟩
  | 82 => ⟨S4096x8, .i32⟩
  | 83 => ⟨S_, .i32⟩
  | 84 => ⟨S4096x8, .i32⟩
  | 85 => ⟨S4096x8, .i32⟩
  | 86 => ⟨S_, .i32⟩
  | 87 => ⟨S4096x8, .i32⟩
  | 88 => ⟨S4096x8, .i32⟩
  | 89 => ⟨S_, .i32⟩
  | 90 => ⟨S4096x8, .i32⟩
  | 91 => ⟨S4096x8, .i32⟩
  | 92 => ⟨S_, .i32⟩
  | 93 => ⟨S4096x8, .i32⟩
  | 94 => ⟨S4096x8, .i32⟩
  | 95 => ⟨S4096x8, .f32⟩
  | 96 => ⟨S4096x8, .f32⟩
  | 97 => ⟨S4096x1x8x1, .f32⟩
  | 98 => ⟨S4096x8, .f32⟩
  | 99 => ⟨S4096x8, .f32⟩
  | 100 => ⟨S4096x8x1x1, .f32⟩
  | 101 => ⟨S4096x1x1, .i32⟩
  | 102 => ⟨S4096x8x1, .i32⟩
  | 103 => ⟨S4096x8x1, .i32⟩
  | 104 => ⟨S4096x1x8, .i32⟩
  | 105 => ⟨S4096x1x8, .i32⟩
  | 106 => ⟨S_, .i32⟩
  | 107 => ⟨S4096x1x1, .i32⟩
  | 108 => ⟨S4096x1x1, .i1⟩
  | 109 => ⟨S_, .i32⟩
  | 110 => ⟨S4096x1x1, .i32⟩
  | 111 => ⟨S4096x1x1, .i32⟩
  | 112 => ⟨S4096x1x1, .i32⟩
  | 113 => ⟨S_, .i32⟩
  | 114 => ⟨S4096x8x1, .i32⟩
  | 115 => ⟨S4096x8x1, .i1⟩
  | 116 => ⟨S_, .i32⟩
  | 117 => ⟨S4096x8x1, .i32⟩
  | 118 => ⟨S4096x8x1, .i32⟩
  | 119 => ⟨S4096x8x1, .i32⟩
  | 120 => ⟨S_, .i32⟩
  | 121 => ⟨S4096x1x8, .i32⟩
  | 122 => ⟨S4096x1x8, .i1⟩
  | 123 => ⟨S_, .i32⟩
  | 124 => ⟨S4096x1x8, .i32⟩
  | 125 => ⟨S4096x1x8, .i32⟩
  | 126 => ⟨S4096x1x8, .i32⟩
  | 127 => ⟨S4096x8x8, .i32⟩
  | _ => ⟨S1x8x96x224x224, .f32⟩

abbrev hbmTy0_1 (i : Nat) : BufTy := match i % 128 with
  | 0 => ⟨S4096x8x8, .i32⟩
  | 1 => ⟨S4096x8x8, .i32⟩
  | 2 => ⟨S4096x8x8x1, .i32⟩
  | 3 => ⟨S4096x8x8x1, .i32⟩
  | 4 => ⟨S4096x8x8x1, .i32⟩
  | 5 => ⟨S4096x8x8x3, .i32⟩
  | 6 => ⟨S4096x8x8x96, .f32⟩
  | 7 => ⟨S_, .i32⟩
  | 8 => ⟨S4096x1x1, .i32⟩
  | 9 => ⟨S4096x1x1, .i1⟩
  | 10 => ⟨S_, .i32⟩
  | 11 => ⟨S4096x1x1, .i32⟩
  | 12 => ⟨S4096x1x1, .i32⟩
  | 13 => ⟨S4096x1x1, .i32⟩
  | 14 => ⟨S_, .i32⟩
  | 15 => ⟨S4096x8x1, .i32⟩
  | 16 => ⟨S4096x8x1, .i1⟩
  | 17 => ⟨S_, .i32⟩
  | 18 => ⟨S4096x8x1, .i32⟩
  | 19 => ⟨S4096x8x1, .i32⟩
  | 20 => ⟨S4096x8x1, .i32⟩
  | 21 => ⟨S_, .i32⟩
  | 22 => ⟨S4096x1x8, .i32⟩
  | 23 => ⟨S4096x1x8, .i1⟩
  | 24 => ⟨S_, .i32⟩
  | 25 => ⟨S4096x1x8, .i32⟩
  | 26 => ⟨S4096x1x8, .i32⟩
  | 27 => ⟨S4096x1x8, .i32⟩
  | 28 => ⟨S4096x8x8, .i32⟩
  | 29 => ⟨S4096x8x8, .i32⟩
  | 30 => ⟨S4096x8x8, .i32⟩
  | 31 => ⟨S4096x8x8x1, .i32⟩
  | 32 => ⟨S4096x8x8x1, .i32⟩
  | 33 => ⟨S4096x8x8x1, .i32⟩
  | 34 => ⟨S4096x8x8x3, .i32⟩
  | 35 => ⟨S4096x8x8x96, .f32⟩
  | 36 => ⟨S_, .i32⟩
  | 37 => ⟨S4096x1x1, .i32⟩
  | 38 => ⟨S4096x1x1, .i1⟩
  | 39 => ⟨S_, .i32⟩
  | 40 => ⟨S4096x1x1, .i32⟩
  | 41 => ⟨S4096x1x1, .i32⟩
  | 42 => ⟨S4096x1x1, .i32⟩
  | 43 => ⟨S_, .i32⟩
  | 44 => ⟨S4096x8x1, .i32⟩
  | 45 => ⟨S4096x8x1, .i1⟩
  | 46 => ⟨S_, .i32⟩
  | 47 => ⟨S4096x8x1, .i32⟩
  | 48 => ⟨S4096x8x1, .i32⟩
  | 49 => ⟨S4096x8x1, .i32⟩
  | 50 => ⟨S_, .i32⟩
  | 51 => ⟨S4096x1x8, .i32⟩
  | 52 => ⟨S4096x1x8, .i1⟩
  | 53 => ⟨S_, .i32⟩
  | 54 => ⟨S4096x1x8, .i32⟩
  | 55 => ⟨S4096x1x8, .i32⟩
  | 56 => ⟨S4096x1x8, .i32⟩
  | 57 => ⟨S4096x8x8, .i32⟩
  | 58 => ⟨S4096x8x8, .i32⟩
  | 59 => ⟨S4096x8x8, .i32⟩
  | 60 => ⟨S4096x8x8x1, .i32⟩
  | 61 => ⟨S4096x8x8x1, .i32⟩
  | 62 => ⟨S4096x8x8x1, .i32⟩
  | 63 => ⟨S4096x8x8x3, .i32⟩
  | 64 => ⟨S4096x8x8x96, .f32⟩
  | 65 => ⟨S_, .i32⟩
  | 66 => ⟨S4096x1x1, .i32⟩
  | 67 => ⟨S4096x1x1, .i1⟩
  | 68 => ⟨S_, .i32⟩
  | 69 => ⟨S4096x1x1, .i32⟩
  | 70 => ⟨S4096x1x1, .i32⟩
  | 71 => ⟨S4096x1x1, .i32⟩
  | 72 => ⟨S_, .i32⟩
  | 73 => ⟨S4096x8x1, .i32⟩
  | 74 => ⟨S4096x8x1, .i1⟩
  | 75 => ⟨S_, .i32⟩
  | 76 => ⟨S4096x8x1, .i32⟩
  | 77 => ⟨S4096x8x1, .i32⟩
  | 78 => ⟨S4096x8x1, .i32⟩
  | 79 => ⟨S_, .i32⟩
  | 80 => ⟨S4096x1x8, .i32⟩
  | 81 => ⟨S4096x1x8, .i1⟩
  | 82 => ⟨S_, .i32⟩
  | 83 => ⟨S4096x1x8, .i32⟩
  | 84 => ⟨S4096x1x8, .i32⟩
  | 85 => ⟨S4096x1x8, .i32⟩
  | 86 => ⟨S4096x8x8, .i32⟩
  | 87 => ⟨S4096x8x8, .i32⟩
  | 88 => ⟨S4096x8x8, .i32⟩
  | 89 => ⟨S4096x8x8x1, .i32⟩
  | 90 => ⟨S4096x8x8x1, .i32⟩
  | 91 => ⟨S4096x8x8x1, .i32⟩
  | 92 => ⟨S4096x8x8x3, .i32⟩
  | 93 => ⟨S4096x8x8x96, .f32⟩
  | 94 => ⟨S_, .f32⟩
  | 95 => ⟨S4096x8x1x1, .f32⟩
  | 96 => ⟨S4096x8x1x1, .f32⟩
  | 97 => ⟨S4096x8x8x96, .f32⟩
  | 98 => ⟨S4096x8x8x96, .f32⟩
  | 99 => ⟨S_, .f32⟩
  | 100 => ⟨S4096x1x8x1, .f32⟩
  | 101 => ⟨S4096x1x8x1, .f32⟩
  | 102 => ⟨S4096x8x8x96, .f32⟩
  | 103 => ⟨S4096x8x8x96, .f32⟩
  | 104 => ⟨S_, .f32⟩
  | 105 => ⟨S4096x8x1x1, .f32⟩
  | 106 => ⟨S4096x8x1x1, .f32⟩
  | 107 => ⟨S4096x8x8x96, .f32⟩
  | 108 => ⟨S4096x8x8x96, .f32⟩
  | 109 => ⟨S4096x8x8x96, .f32⟩
  | 110 => ⟨S4096x8x8x96, .f32⟩
  | 111 => ⟨S4096x8x8x96, .f32⟩
  | 112 => ⟨S4096x8x8x96, .f32⟩
  | 113 => ⟨S4096x8x8x96, .f32⟩
  | 114 => ⟨S_, .f32⟩
  | 115 => ⟨S4096x1x8x1, .f32⟩
  | 116 => ⟨S4096x1x8x1, .f32⟩
  | 117 => ⟨S4096x8x8x96, .f32⟩
  | 118 => ⟨S4096x8x8x96, .f32⟩
  | 119 => ⟨S4096x8x8x96, .f32⟩
  | 120 => ⟨S4096x8x8x96, .f32⟩
  | 121 => ⟨S4096x8x8x96, .f32⟩
  | 122 => ⟨S4096x8x8x96, .f32⟩
  | 123 => ⟨S4096x8x8x96, .f32⟩
  | 124 => ⟨S4096x8x8x96, .f32⟩
  | 125 => ⟨S4096x64x96, .f32⟩
  | 126 => ⟨S1x8x512x64x96, .f32⟩
  | _ => ⟨S1x8x96x224x224, .f32⟩

abbrev hbmTy (i : Nat) : BufTy := match i / 128 with
  | 0 => hbmTy0_0 i
  | 1 => hbmTy0_1 i
  | _ => ⟨S1x8x96x224x224, .f32⟩

abbrev bufTy : (tb : Table) → Fin (tcTables nBuf tb) → BufTy
  | .hbm, ⟨i, _⟩ => hbmTy i
  | _, _ => ⟨S1x8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_cst_0 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v35 : Ref sig .tc := ⟨.hbm, 70, rfl⟩
abbrev main_cst_5 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c : Ref sig .tc := ⟨.hbm, 83, rfl⟩
abbrev main_v41 : Ref sig .tc := ⟨.hbm, 84, rfl⟩
abbrev main_v42 : Ref sig .tc := ⟨.hbm, 85, rfl⟩
abbrev main_c_7 : Ref sig .tc := ⟨.hbm, 86, rfl⟩
abbrev main_v43 : Ref sig .tc := ⟨.hbm, 87, rfl⟩
abbrev main_v44 : Ref sig .tc := ⟨.hbm, 88, rfl⟩
abbrev main_c_8 : Ref sig .tc := ⟨.hbm, 89, rfl⟩
abbrev main_v45 : Ref sig .tc := ⟨.hbm, 90, rfl⟩
abbrev main_v46 : Ref sig .tc := ⟨.hbm, 91, rfl⟩
abbrev main_c_9 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_10 : Ref sig .tc := ⟨.hbm, 106, rfl⟩
abbrev main_v60 : Ref sig .tc := ⟨.hbm, 107, rfl⟩
abbrev main_v61 : Ref sig .tc := ⟨.hbm, 108, rfl⟩
abbrev main_c_11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_12 : Ref sig .tc := ⟨.hbm, 113, rfl⟩
abbrev main_v65 : Ref sig .tc := ⟨.hbm, 114, rfl⟩
abbrev main_v66 : Ref sig .tc := ⟨.hbm, 115, rfl⟩
abbrev main_c_13 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_14 : Ref sig .tc := ⟨.hbm, 120, rfl⟩
abbrev main_v70 : Ref sig .tc := ⟨.hbm, 121, rfl⟩
abbrev main_v71 : Ref sig .tc := ⟨.hbm, 122, rfl⟩
abbrev main_c_15 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_16 : Ref sig .tc := ⟨.hbm, 135, rfl⟩
abbrev main_v83 : Ref sig .tc := ⟨.hbm, 136, rfl⟩
abbrev main_v84 : Ref sig .tc := ⟨.hbm, 137, rfl⟩
abbrev main_c_17 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_18 : Ref sig .tc := ⟨.hbm, 142, rfl⟩
abbrev main_v88 : Ref sig .tc := ⟨.hbm, 143, rfl⟩
abbrev main_v89 : Ref sig .tc := ⟨.hbm, 144, rfl⟩
abbrev main_c_19 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_20 : Ref sig .tc := ⟨.hbm, 149, rfl⟩
abbrev main_v93 : Ref sig .tc := ⟨.hbm, 150, rfl⟩
abbrev main_v94 : Ref sig .tc := ⟨.hbm, 151, rfl⟩
abbrev main_c_21 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_c_22 : Ref sig .tc := ⟨.hbm, 164, rfl⟩
abbrev main_v106 : Ref sig .tc := ⟨.hbm, 165, rfl⟩
abbrev main_v107 : Ref sig .tc := ⟨.hbm, 166, rfl⟩
abbrev main_c_23 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_c_24 : Ref sig .tc := ⟨.hbm, 171, rfl⟩
abbrev main_v111 : Ref sig .tc := ⟨.hbm, 172, rfl⟩
abbrev main_v112 : Ref sig .tc := ⟨.hbm, 173, rfl⟩
abbrev main_c_25 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_c_26 : Ref sig .tc := ⟨.hbm, 178, rfl⟩
abbrev main_v116 : Ref sig .tc := ⟨.hbm, 179, rfl⟩
abbrev main_v117 : Ref sig .tc := ⟨.hbm, 180, rfl⟩
abbrev main_c_27 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_c_28 : Ref sig .tc := ⟨.hbm, 193, rfl⟩
abbrev main_v129 : Ref sig .tc := ⟨.hbm, 194, rfl⟩
abbrev main_v130 : Ref sig .tc := ⟨.hbm, 195, rfl⟩
abbrev main_c_29 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_c_30 : Ref sig .tc := ⟨.hbm, 200, rfl⟩
abbrev main_v134 : Ref sig .tc := ⟨.hbm, 201, rfl⟩
abbrev main_v135 : Ref sig .tc := ⟨.hbm, 202, rfl⟩
abbrev main_c_31 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_c_32 : Ref sig .tc := ⟨.hbm, 207, rfl⟩
abbrev main_v139 : Ref sig .tc := ⟨.hbm, 208, rfl⟩
abbrev main_v140 : Ref sig .tc := ⟨.hbm, 209, rfl⟩
abbrev main_c_33 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_34 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_cst_35 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_36 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_cst_37 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩

abbrev nD : Nat := 1
abbrev τ : Topo := Topo.v7x

variable {F : FTy → Type} [FloatOps F]
-- ==== Proof.Copy.lean ====
/-
  The kernel call's result array is its operand array: the body stores the block it loads, at every grid point both
  windows sit on the same 256 boxes, and the sixteen blocks tile the array.
-/
module

public import proofs.«01_k».proof.Proof.Gen.KernelIdeal.Run
public import proofs.«01_k».proof.Proof.Gen.KernelIdeal.Points
public import Idealize.ShloMosaic.Lib.Pipeline.Value
public import Idealize.ShloMosaic.Lib.Pipeline.ValueKit

@[expose] public section

noncomputable section

namespace Cert.RoiAlign

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A rectangle's corner at the origin, in three dimensions. -/
theorem origin3 : (![0, 0, 0] : Fin 3 → Nat) = fun _ => 0 := funext fun a => by fin_cases a <;> rfl

/-- What the body leaves in the output window's buffer is what the input window's buffer held. -/
theorem body_copies (x : Vec F S256x64x96 .f32) : out0_1 x = x := by
  unfold out0_1
  rw [View.canon_unit_zero origin3, View.ld_unit_zero origin3]
  exact shapeCast_self x _

/-- The result array of the kernel call is the operand array the call found. -/
theorem copied (c : Dev nD) : Value.reg_main_v183 m c = V m c main_v182 := by
  unfold Value.reg_main_v183
  refine (dats m 0 c).arrAt_eq_of_covers 1 _ (by decide +kernel) fun t hf y => ?_
  blk_simp
  rw [after0_1, body_copies]
  rfl

end Cert.RoiAlign

end
-- ==== Proof.Stages.lean ====
/-
  The stages of RoI-align over one pyramid level, as plain functions of arrays: eight sample positions on each side of a
  box, clipped to the image; the cell each position falls in, the next cell and the fraction between them; the feature
  vector at a corner cell; and the blend of the four corners. Both programs are read as this one composition
  (KernelHost.lean, ReferenceValue.lean). At any float instance.
-/
module

public import proofs.«01_k».proof.Proof.Gen.KernelIdeal

@[expose] public section

noncomputable section

namespace Cert.RoiAlign

open Cert.KernelIdeal Cert.KernelIdeal.Gen Idealize.ShloMosaic

variable {F : FTy → Type} [FloatOps F]

/-! ## The sample positions -/

/-- The fractions `k/7` for `k = 0 … 6`: the steps but the last. -/
def sevenths : FVec F S7 .f32 :=
  Host.divf (sitofp .f32 (iotaInDim S7 32 0)) (broadcastInDim S7 ![] bcast_S_S7 (constant S_ .f32 0x40E00000#32))

/-- Seven values and one more after them. -/
def append1 (a : FVec F S7 .f32) (b : FVec F S1 .f32) : FVec F S8 .f32 :=
  concatenate S8 0 [⟨S7, a⟩, ⟨S1, b⟩] concatenates_S7_S1_S8_d0

/-- The eight evenly spaced steps from 0 to 1: `0·(1 − k/7) + 1·(k/7)` for `k = 0 … 6`, then 1 itself. -/
def steps : FVec F S8 .f32 :=
  append1
    (addf
      (mulf (broadcastInDim S7 ![0] bcast_S1_S7_0 (shapeCast S1 (constant (F := F) S_ .f32 0x00000000#32) shapeCasts_S_S1))
        (subf (broadcastInDim S7 ![] bcast_S_S7 (constant S_ .f32 0x3F800000#32)) sevenths))
      (mulf (broadcastInDim S7 ![0] bcast_S1_S7_0 (shapeCast S1 (constant (F := F) S_ .f32 0x3F800000#32) shapeCasts_S_S1)) sevenths))
    (broadcastInDim S1 ![] bcast_S_S1 (constant S_ .f32 0x3F800000#32))

/-- The positions `lo + (hi − lo) · step` of each box's side, clipped to `[0, 223]`. -/
def clipped (lo hi : FVec F S4096 .f32) (step : FVec F S8 .f32) : FVec F S4096x8 .f32 :=
  minimumf (broadcastInDim S4096x8 ![] bcast_S_S4096x8 (constant S_ .f32 0x435F0000#32))
    (maximumf (broadcastInDim S4096x8 ![] bcast_S_S4096x8 (constant S_ .f32 0x00000000#32))
      (addf (broadcastInDim S4096x8 ![0, 1] bcast_S4096x1_S4096x8_0_1 (broadcastInDim S4096x1 ![0] bcast_S4096_S4096x1_0 lo))
        (mulf
          (broadcastInDim S4096x8 ![0, 1] bcast_S4096x1_S4096x8_0_1
            (broadcastInDim S4096x1 ![0] bcast_S4096_S4096x1_0 (subf hi lo)))
          (broadcastInDim S4096x8 ![0, 1] bcast_S1x8_S4096x8_0_1 (broadcastInDim S1x8 ![1] bcast_S8_S1x8_1 step)))))

/-- The first coordinates of the points. -/
def pointX (pts : FVec F S4096x2 .f32) : FVec F S4096 .f32 :=
  shapeCast S4096 (extractStridedSlice S4096x1 ![0, 0] pts slices_S4096x2_S4096x1_0_0) shapeCasts_S4096x1_S4096

/-- The second coordinates of the points. -/
def pointY (pts : FVec F S4096x2 .f32) : FVec F S4096 .f32 :=
  shapeCast S4096 (extractStridedSlice S4096x1 ![0, 1] pts slices_S4096x2_S4096x1_0_1) shapeCasts_S4096x1_S4096

/-- The half width of a box, 4, for every point. -/
def radius : FVec F S4096 .f32 := broadcastInDim S4096 ![] bcast_S_S4096 (constant S_ .f32 0x40800000#32)

/-- The sample positions along one axis of the boxes of half width 4 around the coordinates `p`. -/
def around (p : FVec F S4096 .f32) : FVec F S4096x8 .f32 := clipped (subf p radius) (addf p radius) steps

/-! ## The cells and the fractions -/

/-- The cell a position falls in: its floor, as an integer. -/
def cell (s : FVec F S4096x8 .f32) : IVec S4096x8 32 := fptosi 32 (Host.floor s)

/-- The cell after, at most the last one of the image. -/
def nextCell (i : IVec S4096x8 32) : IVec S4096x8 32 :=
  minsi (addi i (broadcastInDim S4096x8 ![] bcast_S_S4096x8 (constantI S_ 32 1#32)))
    (broadcastInDim S4096x8 ![] bcast_S_S4096x8 (constantI S_ 32 223#32))

/-- How far past its cell a position is. -/
def fraction (s : FVec F S4096x8 .f32) : FVec F S4096x8 .f32 := subf s (sitofp .f32 (cell s))

/-! ## The corners -/

/-- An image index, a negative one counted from the end of the 8 images. -/
def imageIndex (ids : IVec S4096 32) : IVec S4096x1x1 32 :=
  select
    (cmpi .slt (broadcastInDim S4096x1x1 ![0] bcast_S4096_S4096x1x1_0 ids)
      (broadcastInDim S4096x1x1 ![] bcast_S_S4096x1x1 (constantI S_ 32 0#32)))
    (addi (broadcastInDim S4096x1x1 ![0] bcast_S4096_S4096x1x1_0 ids)
      (broadcastInDim S4096x1x1 ![] bcast_S_S4096x1x1 (constantI S_ 32 8#32)))
    (broadcastInDim S4096x1x1 ![0] bcast_S4096_S4096x1x1_0 ids)

/-- A row index (one per box and row of samples), a negative one counted from the end of the 224 rows. -/
def rowIndex (y : IVec S4096x8 32) : IVec S4096x8x1 32 :=
  select
    (cmpi .slt (broadcastInDim S4096x8x1 ![0, 1] bcast_S4096x8_S4096x8x1_0_1 y)
      (broadcastInDim S4096x8x1 ![] bcast_S_S4096x8x1 (constantI S_ 32 0#32)))
    (addi (broadcastInDim S4096x8x1 ![0, 1] bcast_S4096x8_S4096x8x1_0_1 y)
      (broadcastInDim S4096x8x1 ![] bcast_S_S4096x8x1 (constantI S_ 32 224#32)))
    (broadcastInDim S4096x8x1 ![0, 1] bcast_S4096x8_S4096x8x1_0_1 y)

/-- A column index (one per box and column of samples), a negative one counted from the end of the 224 columns. -/
def colIndex (x : IVec S4096x8 32) : IVec S4096x1x8 32 :=
  select
    (cmpi .slt (broadcastInDim S4096x1x8 ![0, 2] bcast_S4096x8_S4096x1x8_0_2 x)
      (broadcastInDim S4096x1x8 ![] bcast_S_S4096x1x8 (constantI S_ 32 0#32)))
    (addi (broadcastInDim S4096x1x8 ![0, 2] bcast_S4096x8_S4096x1x8_0_2 x)
      (broadcastInDim S4096x1x8 ![] bcast_S_S4096x1x8 (constantI S_ 32 224#32)))
    (broadcastInDim S4096x1x8 ![0, 2] bcast_S4096x8_S4096x1x8_0_2 x)

/-- Three index planes side by side: the image, row and column of every sample. -/
def triple (b y x : IVec S4096x8x8x1 32) : IVec S4096x8x8x3 32 :=
  concatenate S4096x8x8x3 3 [⟨S4096x8x8x1, b⟩, ⟨S4096x8x8x1, y⟩, ⟨S4096x8x8x1, x⟩]
    concatenates_S4096x8x8x1_S4096x8x8x1_S4096x8x8x1_S4096x8x8x3_d3

/-- The 96 features at image `ids`, row `y`, column `x`, for every box and every pair of a row and a column of samples. -/
def corner (feats : FVec F S8x96x224x224 .f32) (ids : IVec S4096 32) (y x : IVec S4096x8 32) : FVec F S4096x8x8x96 .f32 :=
  Host.gather gather_S8x96x224x224_S4096x8x8x3_S4096x8x8x96_3_023_n_n_023_3_19611 feats
    (triple
      (broadcastInDim S4096x8x8x1 ![0, 1, 2] bcast_S4096x8x8_S4096x8x8x1_0_1_2
        (broadcastInDim S4096x8x8 ![0, 1, 2] bcast_S4096x1x1_S4096x8x8_0_1_2 (imageIndex ids)))
      (broadcastInDim S4096x8x8x1 ![0, 1, 2] bcast_S4096x8x8_S4096x8x8x1_0_1_2
        (broadcastInDim S4096x8x8 ![0, 1, 2] bcast_S4096x8x1_S4096x8x8_0_1_2 (rowIndex y)))
      (broadcastInDim S4096x8x8x1 ![0, 1, 2] bcast_S4096x8x8_S4096x8x8x1_0_1_2
        (broadcastInDim S4096x8x8 ![0, 1, 2] bcast_S4096x1x8_S4096x8x8_0_1_2 (colIndex x))))

/-! ## The blend -/

/-- A fraction along the rows, laid over the samples as a column of each box. -/
def alongY (w : FVec F S4096x8 .f32) : FVec F S4096x8x1x1 .f32 := broadcastInDim S4096x8x1x1 ![0, 1] bcast_S4096x8_S4096x8x1x1_0_1 w

/-- A fraction along the columns, laid over the samples as a row of each box. -/
def alongX (w : FVec F S4096x8 .f32) : FVec F S4096x1x8x1 .f32 := broadcastInDim S4096x1x8x1 ![0, 2] bcast_S4096x8_S4096x1x8x1_0_2 w

/-- One minus a fraction along the rows. -/
def restY (w : FVec F S4096x8x1x1 .f32) : FVec F S4096x8x1x1 .f32 :=
  subf (broadcastInDim S4096x8x1x1 ![] bcast_S_S4096x8x1x1 (constant S_ .f32 0x3F800000#32)) w

/-- One minus a fraction along the columns. -/
def restX (w : FVec F S4096x1x8x1 .f32) : FVec F S4096x1x8x1 .f32 :=
  subf (broadcastInDim S4096x1x8x1 ![] bcast_S_S4096x1x8x1 (constant S_ .f32 0x3F800000#32)) w

/-- A corner weighted by a row weight and a column weight. -/
def weighted (v : FVec F S4096x8x8x96 .f32) (wy : FVec F S4096x8x1x1 .f32) (wx : FVec F S4096x1x8x1 .f32) : FVec F S4096x8x8x96 .f32 :=
  mulf (mulf v (broadcastInDim S4096x8x8x96 ![0, 1, 2, 3] bcast_S4096x8x1x1_S4096x8x8x96_0_1_2_3 wy))
    (broadcastInDim S4096x8x8x96 ![0, 1, 2, 3] bcast_S4096x1x8x1_S4096x8x8x96_0_1_2_3 wx)

/-- The bilinear samples at the positions `xs`, `ys`: the four corners, each with its weights, added up. -/
def bilinear (feats : FVec F S8x96x224x224 .f32) (ids : IVec S4096 32) (xs ys : FVec F S4096x8 .f32) : FVec F S4096x8x8x96 .f32 :=
  addf
    (addf
      (addf
        (weighted (corner feats ids (cell ys) (cell xs)) (restY (alongY (fraction ys))) (restX (alongX (fraction xs))))
        (weighted (corner feats ids (cell ys) (nextCell (cell xs))) (restY (alongY (fraction ys))) (alongX (fraction xs))))
      (weighted (corner feats ids (nextCell (cell ys)) (cell xs)) (alongY (fraction ys)) (restX (alongX (fraction xs)))))
    (weighted (corner feats ids (nextCell (cell ys)) (nextCell (cell xs))) (alongY (fraction ys)) (alongX (fraction xs)))

/-- RoI-align of the whole level: the features, points and image indices as the programs take them, to the
    `[4096, 64, 96]` array of samples. -/
def samples (features : FVec F S1x8x96x224x224 .f32) (points : FVec F S1x8x512x2 .f32) (ids : IVec S1x8x512 32) : FVec F S4096x64x96 .f32 :=
  shapeCast S4096x64x96
    (bilinear (shapeCast S8x96x224x224 features shapeCasts_S1x8x96x224x224_S8x96x224x224)
      (shapeCast S4096 ids shapeCasts_S1x8x512_S4096)
      (around (pointX (shapeCast S4096x2 points shapeCasts_S1x8x512x2_S4096x2)))
      (around (pointY (shapeCast S4096x2 points shapeCasts_S1x8x512x2_S4096x2))))
    shapeCasts_S4096x8x8x96_S4096x64x96

/-- The whole result from the three arguments that matter. -/
def result (features : FVec F S1x8x96x224x224 .f32) (points : FVec F S1x8x512x2 .f32) (ids : IVec S1x8x512 32) :
    FVec F S1x8x512x64x96 .f32 :=
  shapeCast S1x8x512x64x96 (samples features points ids) shapeCasts_S4096x64x96_S1x8x512x64x96

end Cert.RoiAlign

end
-- ==== Proof.KernelHost.lean ====
/-
  The kernel's operations ahead of its call: what they leave in the call's operand array is the stage composition
  `RoiAlign.samples` of the arguments. Read list by list, each over any contents before it.
-/
module

public import proofs.«01_k».proof.Proof.Stages
public import proofs.«01_k».proof.Proof.Gen.KernelIdeal.Frame
public import Idealize.ShloMosaic.Lib.StableHlo.RunRead

@[expose] public section

noncomputable section

namespace Cert.RoiAlign

open Cert.KernelIdeal Cert.KernelIdeal.Gen Idealize.ShloMosaic Idealize.ShloMosaic.TcCoe Idealize.SL.Sem
open Idealize.ShloMosaic.StableHlo

variable {F : FTy → Type} [FloatOps F]
variable (V : Valuation τ sig (Elt F))

/-! ## The box sides -/

/-- The left side of the boxes. -/
theorem sides_x0 : after hostOps0 V (Proc.devRef .tc main_v6) = subf (pointX (shapeCast S4096x2 (V (Proc.devRef .tc main_arg1)) shapeCasts_S1x8x512x2_S4096x2)) radius := by
  after_reads_simp
  rfl

/-- The upper side of the boxes. -/
theorem sides_y0 : after hostOps0 V (Proc.devRef .tc main_v10) = subf (pointY (shapeCast S4096x2 (V (Proc.devRef .tc main_arg1)) shapeCasts_S1x8x512x2_S4096x2)) radius := by
  after_reads_simp
  rfl

/-- The right side of the boxes. -/
theorem sides_x1 : after hostOps0 V (Proc.devRef .tc main_v14) = addf (pointX (shapeCast S4096x2 (V (Proc.devRef .tc main_arg1)) shapeCasts_S1x8x512x2_S4096x2)) radius := by
  after_reads_simp
  rfl

/-- The lower side of the boxes. -/
theorem sides_y1 : after hostOps0 V (Proc.devRef .tc main_v18) = addf (pointY (shapeCast S4096x2 (V (Proc.devRef .tc main_arg1)) shapeCasts_S1x8x512x2_S4096x2)) radius := by
  after_reads_simp
  rfl

/-- The constant 0 the steps start from, kept by the box sides' list. -/
theorem sides_zero : after hostOps0 V (Proc.devRef .tc main_cst_3) = constant S_ .f32 0x00000000#32 := by
  after_reads_simp

/-- The constant 1 the steps end at, kept by the box sides' list. -/
theorem sides_one : after hostOps0 V (Proc.devRef .tc main_cst_4) = constant S_ .f32 0x3F800000#32 := by
  after_reads_simp

/-- The features, one image per row. -/
theorem sides_feats : after hostOps0 V (Proc.devRef .tc main_v0) = shapeCast S8x96x224x224 (V (Proc.devRef .tc main_arg0)) shapeCasts_S1x8x96x224x224_S8x96x224x224 := by
  after_reads_simp
  rfl

/-- The image indices, one per box. -/
theorem sides_ids : after hostOps0 V (Proc.devRef .tc main_v2) = shapeCast S4096 (V (Proc.devRef .tc main_arg2)) shapeCasts_S1x8x512_S4096 := by
  after_reads_simp
  rfl

/-! ## The steps -/

/-- The last operation of the steps' list puts the step 1 after the seven others. -/
theorem append1_result (W : Valuation τ sig (Elt F)) :
    (StableHlo.TRef.binary (.of main_call0_v15 : StableHlo.TRef sig ⟨S7, .f32⟩) (.of main_call0_v16 : StableHlo.TRef sig ⟨S1, .f32⟩)
        (.of main_v19 : StableHlo.TRef sig ⟨S8, .f32⟩)
        (fun a b => concatenate S8 0 [⟨S7, a⟩, ⟨S1, b⟩] concatenates_S7_S1_S8_d0)).result W (no_index (Proc.devRef .tc main_v19))
      = append1 (W (Proc.devRef .tc main_call0_v15)) (W (Proc.devRef .tc main_call0_v16)) :=
  binary_result' ..

/-- The steps' list leaves the eight steps, when its two constants are 0 and 1. -/
theorem steps_read (h0 : V (Proc.devRef .tc main_cst_3) = constant S_ .f32 0x00000000#32)
    (h1 : V (Proc.devRef .tc main_cst_4) = constant S_ .f32 0x3F800000#32) :
    after hostOps0_1 V (Proc.devRef .tc main_v19) = steps := by
  simp only [readAfter]
  rw [append1_result]
  after_reads_simp
  rw [h0, h1]
  rfl

/-! ## The positions -/

/-- The two lists of one axis leave its clipped sample positions: the columns'. -/
theorem positions_x :
    after hostOps0_3 (after hostOps0_2 V) (Proc.devRef .tc main_v29)
      = clipped (V (Proc.devRef .tc main_v6)) (V (Proc.devRef .tc main_v14)) (V (Proc.devRef .tc main_v19)) := by
  after_reads_simp
  rfl

/-- The two lists of one axis leave its clipped sample positions: the rows'. -/
theorem positions_y :
    after hostOps0_5 (after hostOps0_4 V) (Proc.devRef .tc main_v39)
      = clipped (V (Proc.devRef .tc main_v10)) (V (Proc.devRef .tc main_v18)) (V (Proc.devRef .tc main_v19)) := by
  after_reads_simp
  rfl

/-! ## The gathers and the blend -/

/-- The index planes of corner 00 are put side by side. -/
theorem triple_result_00 (W : Valuation τ sig (Elt F)) :
    (StableHlo.nary ![main_v81, main_v82, main_v83] main_v84 (fun u => (concatenate S4096x8x8x3 3
        [⟨S4096x8x8x1, (u 0 : (⟨S4096x8x8x1, .i32⟩ : BufTy).Contents (Elt F))⟩,
         ⟨S4096x8x8x1, (u 1 : (⟨S4096x8x8x1, .i32⟩ : BufTy).Contents (Elt F))⟩,
         ⟨S4096x8x8x1, (u 2 : (⟨S4096x8x8x1, .i32⟩ : BufTy).Contents (Elt F))⟩]
        concatenates_S4096x8x8x1_S4096x8x8x1_S4096x8x8x1_S4096x8x8x3_d3 : (⟨S4096x8x8x3, .i32⟩ : BufTy).Contents (Elt F)))).result W
        (no_index (Proc.devRef .tc main_v84))
      = triple (W (Proc.devRef .tc main_v81)) (W (Proc.devRef .tc main_v82)) (W (Proc.devRef .tc main_v83)) :=
  nary_result' ..

/-- The index planes of corner 01 are put side by side. -/
theorem triple_result_01 (W : Valuation τ sig (Elt F)) :
    (StableHlo.nary ![main_v104, main_v105, main_v106] main_v107 (fun u => (concatenate S4096x8x8x3 3
        [⟨S4096x8x8x1, (u 0 : (⟨S4096x8x8x1, .i32⟩ : BufTy).Contents (Elt F))⟩,
         ⟨S4096x8x8x1, (u 1 : (⟨S4096x8x8x1, .i32⟩ : BufTy).Contents (Elt F))⟩,
         ⟨S4096x8x8x1, (u 2 : (⟨S4096x8x8x1, .i32⟩ : BufTy).Contents (Elt F))⟩]
        concatenates_S4096x8x8x1_S4096x8x8x1_S4096x8x8x1_S4096x8x8x3_d3 : (⟨S4096x8x8x3, .i32⟩ : BufTy).Contents (Elt F)))).result W
        (no_index (Proc.devRef .tc main_v107))
      = triple (W (Proc.devRef .tc main_v104)) (W (Proc.devRef .tc main_v105)) (W (Proc.devRef .tc main_v106)) :=
  nary_result' ..

/-- The index planes of corner 10 are put side by side. -/
theorem triple_result_10 (W : Valuation τ sig (Elt F)) :
    (StableHlo.nary ![main_v127, main_v128, main_v129] main_v130 (fun u => (concatenate S4096x8x8x3 3
        [⟨S4096x8x8x1, (u 0 : (⟨S4096x8x8x1, .i32⟩ : BufTy).Contents (Elt F))⟩,
         ⟨S4096x8x8x1, (u 1 : (⟨S4096x8x8x1, .i32⟩ : BufTy).Contents (Elt F))⟩,
         ⟨S4096x8x8x1, (u 2 : (⟨S4096x8x8x1, .i32⟩ : BufTy).Contents (Elt F))⟩]
        concatenates_S4096x8x8x1_S4096x8x8x1_S4096x8x8x1_S4096x8x8x3_d3 : (⟨S4096x8x8x3, .i32⟩ : BufTy).Contents (Elt F)))).result W
        (no_index (Proc.devRef .tc main_v130))
      = triple (W (Proc.devRef .tc main_v127)) (W (Proc.devRef .tc main_v128)) (W (Proc.devRef .tc main_v129)) :=
  nary_result' ..

/-- The index planes of corner 11 are put side by side. -/
theorem triple_result_11 (W : Valuation τ sig (Elt F)) :
    (StableHlo.nary ![main_v150, main_v151, main_v152] main_v153 (fun u => (concatenate S4096x8x8x3 3
        [⟨S4096x8x8x1, (u 0 : (⟨S4096x8x8x1, .i32⟩ : BufTy).Contents (Elt F))⟩,
         ⟨S4096x8x8x1, (u 1 : (⟨S4096x8x8x1, .i32⟩ : BufTy).Contents (Elt F))⟩,
         ⟨S4096x8x8x1, (u 2 : (⟨S4096x8x8x1, .i32⟩ : BufTy).Contents (Elt F))⟩]
        concatenates_S4096x8x8x1_S4096x8x8x1_S4096x8x8x1_S4096x8x8x3_d3 : (⟨S4096x8x8x3, .i32⟩ : BufTy).Contents (Elt F)))).result W
        (no_index (Proc.devRef .tc main_v153))
      = triple (W (Proc.devRef .tc main_v150)) (W (Proc.devRef .tc main_v151)) (W (Proc.devRef .tc main_v152)) :=
  nary_result' ..

set_option maxRecDepth 8192 in
set_option maxHeartbeats 4000000 in
/-- The last list leaves the bilinear samples at the positions it finds. -/
theorem blend_read :
    after hostOps0_6 V (Proc.devRef .tc main_v182)
      = shapeCast S4096x64x96 (bilinear (V (Proc.devRef .tc main_v0)) (V (Proc.devRef .tc main_v2)) (V (Proc.devRef .tc main_v29)) (V (Proc.devRef .tc main_v39)))
          shapeCasts_S4096x8x8x96_S4096x64x96 := by
  simp (disch := decide) only [readAfter, readUpto, nullary_result', unary_result', binary_result', ternary_result', reshape_result',
    triple_result_00, triple_result_01, triple_result_10, triple_result_11]
  rfl

/-! ## The operand array of the call -/

/-- What the operations ahead of the call leave in its operand array: the samples of the arguments. -/
theorem operand_read :
    after (List.flatten [hostOps0, hostOps0_1, hostOps0_2, hostOps0_3, hostOps0_4, hostOps0_5, hostOps0_6]) V (Proc.devRef .tc main_v182)
      = samples (V (Proc.devRef .tc main_arg0)) (V (Proc.devRef .tc main_arg1)) (V (Proc.devRef .tc main_arg2)) := by
  simp only [List.flatten_cons, List.flatten_nil, List.append_nil, after_append]
  rw [blend_read, positions_y]
  have hx : ∀ W : Valuation τ sig (Elt F), after hostOps0_5 (after hostOps0_4 W) (Proc.devRef .tc main_v29) = W (Proc.devRef .tc main_v29) :=
    fun W => by after_reads_simp
  have hf : ∀ W : Valuation τ sig (Elt F), after hostOps0_5 (after hostOps0_4 (after hostOps0_3 (after hostOps0_2 (after hostOps0_1 W)))) (Proc.devRef .tc main_v0) = W (Proc.devRef .tc main_v0) :=
    fun W => by after_reads_simp
  have hi : ∀ W : Valuation τ sig (Elt F), after hostOps0_5 (after hostOps0_4 (after hostOps0_3 (after hostOps0_2 (after hostOps0_1 W)))) (Proc.devRef .tc main_v2) = W (Proc.devRef .tc main_v2) :=
    fun W => by after_reads_simp
  have h19 : ∀ W : Valuation τ sig (Elt F), after hostOps0_3 (after hostOps0_2 W) (Proc.devRef .tc main_v19) = W (Proc.devRef .tc main_v19) :=
    fun W => by after_reads_simp
  have h10 : ∀ W : Valuation τ sig (Elt F), after hostOps0_3 (after hostOps0_2 (after hostOps0_1 W)) (Proc.devRef .tc main_v10) = W (Proc.devRef .tc main_v10) :=
    fun W => by after_reads_simp
  have h18 : ∀ W : Valuation τ sig (Elt F), after hostOps0_3 (after hostOps0_2 (after hostOps0_1 W)) (Proc.devRef .tc main_v18) = W (Proc.devRef .tc main_v18) :=
    fun W => by after_reads_simp
  have h6 : ∀ W : Valuation τ sig (Elt F), after hostOps0_1 W (Proc.devRef .tc main_v6) = W (Proc.devRef .tc main_v6) :=
    fun W => by after_reads_simp
  have h14 : ∀ W : Valuation τ sig (Elt F), after hostOps0_1 W (Proc.devRef .tc main_v14) = W (Proc.devRef .tc main_v14) :=
    fun W => by after_reads_simp
  rw [hx, hf, hi, h10, h18, h19, positions_x, h6, h14, steps_read _ (sides_zero V) (sides_one V),
    sides_x0, sides_x1, sides_y0, sides_y1, sides_feats, sides_ids]
  rfl

/-- The region finds its operand array at the samples of the launch's arguments. -/
theorem operand (m : (ℓ : Loc nD τ sig) → Buf (Elt F) ℓ) (c : Dev nD) :
    V0 m c (Proc.devRef .tc main_v182)
      = samples (m ((c.tc : Thread nD τ).loc main_arg0)) (m ((c.tc : Thread nD τ).loc main_arg1)) (m ((c.tc : Thread nD τ).loc main_arg2)) :=
  operand_read fun b => m (c, b)

end Cert.RoiAlign

end
-- ==== Proof.KernelValue.lean ====
/-
  The kernel's run: its result is the samples of the arguments, in the result's shape. The call copies its operand array
  (Copy.lean), which the operations ahead of it fill with the samples (KernelHost.lean); a reshape follows.
-/
module

public import proofs.«01_k».proof.Proof.Copy
public import proofs.«01_k».proof.Proof.KernelHost

@[expose] public section

noncomputable section

namespace Cert.RoiAlign

open Cert.KernelIdeal Cert.KernelIdeal.Gen Idealize.ShloMosaic Idealize.ShloMosaic.TcCoe Idealize.SL.Sem

variable {F : FTy → Type} [FloatOps F]

/-- Every execution of the kernel ends with the result array at `result` of the arguments, and the arguments unchanged. -/
theorem kernel_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v184)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [copied, show V m c main_v182 = _ from operand m c]; rfl), (h c).2⟩)
    (Value.run m ρ)

end Cert.RoiAlign

end
-- ==== Proof.ReferenceValue.lean ====
/-
  The reference's result is the same stage composition: its boxes are the points less and plus 4 laid side by side, whose
  four columns are the sides the kernel computes one by one; from there the two programs name the same operations.
-/
module

public import proofs.«01_k».proof.Proof.Stages
public import proofs.«01_k».proof.Proof.Gen.ReferenceIdeal.Run
public import Idealize.ShloMosaic.Lib.Pointwise
public import Idealize.ShloMosaic.Lib.LayoutPointwise

@[expose] public section

noncomputable section

namespace Cert.RoiAlign

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]
variable (V : Valuation τ sig (Elt F))

/-- The four numbers of a box: the point less 4, then the point plus 4. -/
def boxes (pts : FVec F S4096x2 .f32) : FVec F S4096x4 .f32 :=
  concatenate S4096x4 1
    [⟨S4096x2, subf pts (broadcastInDim S4096x2 ![] bcast_S_S4096x2 (constant S_ .f32 0x40800000#32))⟩,
     ⟨S4096x2, addf pts (broadcastInDim S4096x2 ![] bcast_S_S4096x2 (constant S_ .f32 0x40800000#32))⟩]
    concatenates_S4096x2_S4096x2_S4096x4_d1

/-- Column 0 of the boxes: the first coordinates less 4. -/
theorem boxes_x0 (pts : FVec F S4096x2 .f32) :
    shapeCast S4096 (extractStridedSlice S4096x1 ![0, 0] (boxes pts) slices_S4096x4_S4096x1_0_0) shapeCasts_S4096x1_S4096
      = subf (pointX pts) radius := by
  funext i
  unfold boxes pointX radius
  pointwise

/-- Column 1 of the boxes: the second coordinates less 4. -/
theorem boxes_y0 (pts : FVec F S4096x2 .f32) :
    shapeCast S4096 (extractStridedSlice S4096x1 ![0, 1] (boxes pts) slices_S4096x4_S4096x1_0_1) shapeCasts_S4096x1_S4096
      = subf (pointY pts) radius := by
  funext i
  unfold boxes pointY radius
  pointwise

/-- Column 2 of the boxes: the first coordinates plus 4. -/
theorem boxes_x1 (pts : FVec F S4096x2 .f32) :
    shapeCast S4096 (extractStridedSlice S4096x1 ![0, 2] (boxes pts) slices_S4096x4_S4096x1_0_2) shapeCasts_S4096x1_S4096
      = addf (pointX pts) radius := by
  funext i
  unfold boxes pointX radius
  pointwise

/-- Column 3 of the boxes: the second coordinates plus 4. -/
theorem boxes_y1 (pts : FVec F S4096x2 .f32) :
    shapeCast S4096 (extractStridedSlice S4096x1 ![0, 3] (boxes pts) slices_S4096x4_S4096x1_0_3) shapeCasts_S4096x1_S4096
      = addf (pointY pts) radius := by
  funext i
  unfold boxes pointY radius
  pointwise

/-- The points, one per row. -/
abbrev points (V : Valuation τ sig (Elt F)) : FVec F S4096x2 .f32 :=
  shapeCast S4096x2 (V (Proc.devRef .tc main_arg1)) shapeCasts_S1x8x512x2_S4096x2

/-- The reference's columns of samples are the positions around the first coordinates. -/
theorem reference_xs : res_main_v35 V = around (pointX (points V)) := by
  have h0 : res_main_v9 V = subf (pointX (points V)) radius := boxes_x0 (points V)
  have h1 : shapeCast S4096 (extractStridedSlice S4096x1 ![0, 2] (res_main_v7 V) slices_S4096x4_S4096x1_0_2) shapeCasts_S4096x1_S4096
      = addf (pointX (points V)) radius := boxes_x1 (points V)
  unfold res_main_v35
  rw [h0, h1]
  rfl

/-- The reference's rows of samples are the positions around the second coordinates. -/
theorem reference_ys : res_main_v36 V = around (pointY (points V)) := by
  have h0 : res_main_v11 V = subf (pointY (points V)) radius := boxes_y0 (points V)
  have h1 : shapeCast S4096 (extractStridedSlice S4096x1 ![0, 3] (res_main_v7 V) slices_S4096x4_S4096x1_0_3) shapeCasts_S4096x1_S4096
      = addf (pointY (points V)) radius := boxes_y1 (points V)
  unfold res_main_v36
  rw [h0, h1]
  rfl

/-- The two programs' gathers have the same dimensions. -/
theorem gather_dims :
    Cert.ReferenceIdeal.gather_S8x96x224x224_S4096x8x8x3_S4096x8x8x96_3_023_n_n_023_3_19611
      = Cert.KernelIdeal.gather_S8x96x224x224_S4096x8x8x3_S4096x8x8x96_3_023_n_n_023_3_19611 := rfl

set_option maxRecDepth 8192 in
set_option maxHeartbeats 4000000 in
/-- The reference's result: the samples of the arguments, in the result's shape. -/
theorem reference_read :
    val4 V (Proc.devRef .tc main_v180)
      = result (V (Proc.devRef .tc main_arg0)) (V (Proc.devRef .tc main_arg1)) (V (Proc.devRef .tc main_arg2)) := by
  rw [val4_main_v180]
  unfold res_main_v173 res_main_v51 res_main_v54 res_main_v55 res_main_v56 res_main_v57 res_main_v58 res_main_v59
    res_main_v38 res_main_v40
  rw [reference_xs, reference_ys, gather_dims]
  unfold result samples bilinear weighted corner imageIndex rowIndex colIndex restX restY alongX alongY fraction nextCell cell triple
  generalize around (F := F) (pointX (points V)) = xs
  generalize around (F := F) (pointY (points V)) = ys
  unfold res_main_v0
  generalize shapeCast _ (V (Proc.devRef .tc main_arg0)) _ = feats
  generalize shapeCast _ (V (Proc.devRef .tc main_arg2)) _ = ids
  rfl

/-- Every execution of the reference ends with its result array at `result` of the arguments, and the arguments unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val4_main_v180 (launchContents m c)).symm.trans (reference_read (launchContents m c))), (h c).2⟩)
    (Value.run m ρ)

end Cert.RoiAlign

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments unchanged, and it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On the extended reals the kernel and the reference end with the same result: the bilinear samples of the features
    around every point, from arguments that agree. -/
theorem algebraic : Cert.algebraic_KernelIdeal_ReferenceIdeal := by
  intro m ρ m' ρ' _ hagree
  refine ⟨_, Cert.RoiAlign.kernel_run (F := Ideal) m ρ, ?_⟩
  refine (θ_run Cert.ReferenceIdeal.defs _ _).mono (fun _ h c => ⟨(h c).1.trans ?_, (h c).2⟩)
    (Cert.RoiAlign.reference_run (F := Ideal) m' ρ')
  rw [(hagree c).1, (hagree c).2.1, (hagree c).2.2.1]

/-- The certificate's claims, together. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
